-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S_ : Shape := ⟨0, ![]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .local _ .vmem, ⟨0, _⟩ => ⟨S512x1024, .f32⟩
  | .local _ .vmem, ⟨1, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_8 : BitVec 32 := 512#32
  let v18 : BitVec 32 := Scalar.muli v2 c512_i32_8
  let c0_i32_13 : BitVec 32 := 0#32
  ![v18.toNat, 0]
def k0_off2 (d0 : Dev nD) : Fin 2 → Nat :=
  let c0_i32_14 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  ![0, v17.toNat]
def k0_dev2 (d0 : Dev nD) : Nat :=
  let c0_i32_10 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_9 : BitVec 32 := 16#32
  let v19 : BitVec 32 := Scalar.muli v9 c16_i32_9
  let v20 : BitVec 32 := Scalar.addi c0_i32_10 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_off3 (d0 : Dev nD) : Fin 2 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_15 : BitVec 32 := 512#32
  let v27 : BitVec 32 := Scalar.muli v2 c512_i32_15
  let v28 : Index := Scalar.indexCast v27
  ![0, v28.toNat]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_16 : BitVec 32 := 512#32
  let v31 : BitVec 32 := Scalar.muli v2 c512_i32_16
  let v32 : Index := Scalar.indexCast v31
  let c0_17 : Index := 0#32
  ![v32.toNat, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geometry.lean ====
/-
# The exchange in coordinates

The kernel transposes the cut of a 1024 by 1024 array: it comes in cut by rows in two halves and leaves cut by columns in
two halves. Device `c` of the 32 stands in half `c / 16` of the mesh's first axis; its only partner is the device
`peer c` across that axis. Each device holds 512 rows of 1024 columns and ends with 1024 rows of 512 columns.

This module says which elements of the two staged blocks the kernel's rectangles name (`mem_landing`,
`own_rows_eq`), what the finished block is (`gathered`), and that the two ways the kernel writes it agree with that: what
the partner's copy leaves in the landing rows (`landed_at`) and what the device's own store leaves in the others
(`stored_at`).
-/
module

public import proofs.«01_k».proof.Proof.Gen.KernelIdeal
public import proofs.«01_k».proof.Proof.Gen.KernelIdeal.Skeleton
public import Idealize.ShloMosaic.Lib.Pipeline.Value

@[expose] public section

noncomputable section

namespace Cert.KernelIdeal.Exchange

open Cert.KernelIdeal Cert.KernelIdeal.Gen
open Idealize.ShloMosaic

variable {F : FTy → Type} [FloatOps F]

/-! ## The partner -/

set_option backward.proofsInPublic true in
/-- The device across the mesh's first axis. -/
def peer (c : Dev nD) : Dev nD := ⟨(c.val + 16) % 32, Nat.mod_lt _ (by decide)⟩

/-- The partner's partner is the device itself. -/
theorem peer_peer (c : Dev nD) : peer (peer c) = c := by revert c; decide +kernel

/-- The partner stands in the other half, -/
theorem half_peer (c : Dev nD) : (peer c).val / 16 = 1 - c.val / 16 := by revert c; decide +kernel
/-- at the same place in it. -/
theorem place_peer (c : Dev nD) : (peer c).val % 16 = c.val % 16 := by revert c; decide +kernel
/-- There are two halves. -/
theorem half_lt (c : Dev nD) : c.val / 16 < 2 := Nat.div_lt_of_lt_mul c.isLt

/-- The signal is addressed to the partner, -/
theorem signal_dev (c : Dev nD) : (⟨k0_dev1 c, k0_dev1_lt c⟩ : Dev nD) = peer c :=
  Fin.ext (by rw [show (⟨k0_dev1 c, k0_dev1_lt c⟩ : Dev nD).val = _ from k0_dev1_eq c]; revert c; decide +kernel)
/-- and so is the copy. -/
theorem copy_dev (c : Dev nD) : (⟨k0_dev2 c, k0_dev2_lt c⟩ : Dev nD) = peer c :=
  Fin.ext (by rw [show (⟨k0_dev2 c, k0_dev2_lt c⟩ : Dev nD).val = _ from k0_dev2_eq c]; revert c; decide +kernel)

/-! ## The staged blocks and the kernel's rectangles of them -/

/-- The staged input: 512 rows of 1024 columns. -/
abbrev xM : Memref sig .tc .vmem S512x1024 .f32 := Memref.whole cc0_stg0_0
/-- The staged result: 1024 rows of 512 columns. -/
abbrev oM : Memref sig .tc .vmem S1024x512 .f32 := Memref.whole cc0_stg1_0

/-- The columns of its input that device `c` sends, -/
abbrev sentRect (c : Dev nD) : Rect S512x1024 := Rect.unit (s := S512x1024) (k0_off2 c) S512x512.size (k0_off2_inb c)
/-- those that it keeps, -/
abbrev keptRect (c : Dev nD) : Rect S512x1024 := Rect.unit (s := S512x1024) (k0_off3 c) S512x512.size (k0_off3_inb c)
/-- the rows of the PARTNER's result that its copy fills, -/
abbrev landRect (c : Dev nD) : Rect S1024x512 := Rect.unit (s := S1024x512) (k0_off1 c) S512x512.size (k0_off1_inb c)
/-- and those of its own result that it stores. -/
abbrev ownRect (c : Dev nD) : Rect S1024x512 := Rect.unit (s := S1024x512) (k0_off4 c) S512x512.size (k0_off4_inb c)

/-- The copy's source, -/
abbrev sentM (c : Dev nD) : Memref sig .tc .vmem S512x512 .f32 := xM.slice (sentRect c) (fun _ => rfl)
/-- and its destination, which is on the partner. -/
abbrev landM (c : Dev nD) : Memref sig .tc .vmem S512x512 .f32 := oM.slice (landRect c) (fun _ => rfl)

/-- The elements of the copy's destination, -/
abbrev landing (c : Dev nD) : Finset S1024x512.Idx := (landM c).view.set
/-- and of its source. -/
abbrev sent (c : Dev nD) : Finset S512x1024.Idx := (sentM c).view.set

/-- Device `c`'s copy fills the rows of half `c / 16`. -/
theorem mem_landing (c : Dev nD) (i : S1024x512.Idx) : i ∈ landing c ↔ (i 0).val / 512 = c.val / 16 := by
  rw [show landing c = (landRect c).set from View.set_slice_whole _ _, Rect.mem_set_unit, Fin.forall_fin_two, k0_off1_eq]
  have h0 : (i 0).val < 1024 := (i 0).isLt
  have h1 : (i 1).val < 512 := (i 1).isLt
  have hc := half_lt c
  show (512 * (c.val / 16) ≤ (i 0).val ∧ (i 0).val < 512 * (c.val / 16) + 512) ∧ (0 ≤ (i 1).val ∧ (i 1).val < 0 + 512) ↔ _
  omega

/-- Device `c` sends the columns of the other half. -/
theorem mem_sent (c : Dev nD) (i : S512x1024.Idx) : i ∈ sent c ↔ (i 1).val / 512 = 1 - c.val / 16 := by
  rw [show sent c = (sentRect c).set from View.set_slice_whole _ _, Rect.mem_set_unit, Fin.forall_fin_two, k0_off2_eq]
  have h0 : (i 0).val < 512 := (i 0).isLt
  have h1 : (i 1).val < 1024 := (i 1).isLt
  have hc := half_lt c
  show (0 ≤ (i 0).val ∧ (i 0).val < 0 + 512) ∧ (512 - 512 * (c.val / 16) ≤ (i 1).val ∧ (i 1).val < 512 - 512 * (c.val / 16) + 512) ↔ _
  omega

/-- The rows a device stores are those its partner's copy leaves alone. -/
theorem own_rows_eq (c : Dev nD) : (ownRect c).set = Finset.univ \ landing (peer c) := by
  ext i
  rw [Finset.mem_sdiff, mem_landing, half_peer, Rect.mem_set_unit, Fin.forall_fin_two, k0_off4_eq]
  have h0 : (i 0).val < 1024 := (i 0).isLt
  have h1 : (i 1).val < 512 := (i 1).isLt
  have hc := half_lt c
  show (512 * (c.val / 16) ≤ (i 0).val ∧ (i 0).val < 512 * (c.val / 16) + 512) ∧ (0 ≤ (i 1).val ∧ (i 1).val < 0 + 512) ↔ _
  simp only [Finset.mem_univ, true_and]
  omega

/-- The columns a device keeps are not among those it sends. -/
theorem kept_subset (c : Dev nD) : (keptRect c).set ⊆ Finset.univ \ sent c := by
  intro i hi
  rw [Rect.mem_set_unit, Fin.forall_fin_two, k0_off3_eq] at hi
  have hc := half_lt c
  have hi' : (0 ≤ (i 0).val ∧ (i 0).val < 0 + 512) ∧ (512 * (c.val / 16) ≤ (i 1).val ∧ (i 1).val < 512 * (c.val / 16) + 512) := hi
  rw [Finset.mem_sdiff, mem_sent]
  simp only [Finset.mem_univ, true_and]
  omega

/-- Row and column of an element of each rectangle: its offset there and the row or column within the 512 by 512 block. -/
theorem land_coords (c : Dev nD) (j : S512x512.Idx) :
    ((landRect c).emb j 0).val = 512 * (c.val / 16) + (j 0).val ∧ ((landRect c).emb j 1).val = (j 1).val := by
  constructor
  · refine (Rect.emb_apply (landRect c) j 0).trans ?_
    show k0_off1 c 0 + 1 * (j 0).val = _
    rw [k0_off1_eq, Nat.one_mul]; rfl
  · refine (Rect.emb_apply (landRect c) j 1).trans ?_
    show k0_off1 c 1 + 1 * (j 1).val = _
    rw [k0_off1_eq, Nat.one_mul]; exact Nat.zero_add _
/-- Where an element of the rows that the device stores lies in its result. -/
theorem own_coords (c : Dev nD) (j : S512x512.Idx) :
    ((ownRect c).emb j 0).val = 512 * (c.val / 16) + (j 0).val ∧ ((ownRect c).emb j 1).val = (j 1).val := by
  constructor
  · refine (Rect.emb_apply (ownRect c) j 0).trans ?_
    show k0_off4 c 0 + 1 * (j 0).val = _
    rw [k0_off4_eq, Nat.one_mul]; rfl
  · refine (Rect.emb_apply (ownRect c) j 1).trans ?_
    show k0_off4 c 1 + 1 * (j 1).val = _
    rw [k0_off4_eq, Nat.one_mul]; exact Nat.zero_add _
/-- Where an element of the columns sent lies in the argument. -/
theorem sent_coords (c : Dev nD) (j : S512x512.Idx) :
    ((sentRect c).emb j 0).val = (j 0).val ∧ ((sentRect c).emb j 1).val = 512 - 512 * (c.val / 16) + (j 1).val := by
  constructor
  · refine (Rect.emb_apply (sentRect c) j 0).trans ?_
    show k0_off2 c 0 + 1 * (j 0).val = _
    rw [k0_off2_eq, Nat.one_mul]; exact Nat.zero_add _
  · refine (Rect.emb_apply (sentRect c) j 1).trans ?_
    show k0_off2 c 1 + 1 * (j 1).val = _
    rw [k0_off2_eq, Nat.one_mul]; rfl
/-- Where an element of the columns kept lies in the argument. -/
theorem kept_coords (c : Dev nD) (j : S512x512.Idx) :
    ((keptRect c).emb j 0).val = (j 0).val ∧ ((keptRect c).emb j 1).val = 512 * (c.val / 16) + (j 1).val := by
  constructor
  · refine (Rect.emb_apply (keptRect c) j 0).trans ?_
    show k0_off3 c 0 + 1 * (j 0).val = _
    rw [k0_off3_eq, Nat.one_mul]; exact Nat.zero_add _
  · refine (Rect.emb_apply (keptRect c) j 1).trans ?_
    show k0_off3 c 1 + 1 * (j 1).val = _
    rw [k0_off3_eq, Nat.one_mul]; rfl

/-! ## The finished block -/

set_option backward.proofsInPublic true in
/-- The device whose input holds row `i 0` of the array, among those at `c`'s place of their half; -/
def origin (c : Dev nD) (i : S1024x512.Idx) : Dev nD :=
  ⟨16 * ((i 0).val / 512) + c.val % 16, by have h : (i 0).val < 1024 := (i 0).isLt; show _ < 32; omega⟩

set_option backward.proofsInPublic true in
/-- and where in that input the element is that device `c` ends with at `i`: the row within the half, the column in
    `c`'s half of the columns. -/
def spot (c : Dev nD) (i : S1024x512.Idx) : S512x1024.Idx :=
  Shape.pair ⟨(i 0).val % 512, Nat.mod_lt _ (by decide)⟩
    ⟨512 * (c.val / 16) + (i 1).val, by have h : (i 1).val < 512 := (i 1).isLt; have := half_lt c; show _ < 1024; omega⟩

/-- What device `c` ends with, of the devices' inputs `x`: its half of the columns, of all the rows. -/
def gathered {α : Type} (x : Dev nD → S512x1024.Idx → α) (c : Dev nD) : S1024x512.Idx → α := fun i => x (origin c i) (spot c i)

/-- An element of the finished block, by the device and the coordinates it comes from. -/
theorem gathered_eq {α : Type} (x : Dev nD → S512x1024.Idx → α) (c d : Dev nD) (i : S1024x512.Idx) (j : S512x1024.Idx)
    (hd : d.val = 16 * ((i 0).val / 512) + c.val % 16) (h0 : (j 0).val = (i 0).val % 512)
    (h1 : (j 1).val = 512 * (c.val / 16) + (i 1).val) : x d j = gathered x c i := by
  have hd' : d = origin c i := Fin.ext hd
  have hj : j = spot c i := by
    rw [← Shape.pair_eta j]
    exact congrArg₂ Shape.pair (Fin.ext h0) (Fin.ext h1)
  rw [hd', hj]; rfl

/-- Row and column `j` of the block that device `c` takes from device `d` — from `c`'s half of `d`'s columns, into the rows
    of `d`'s half — is the finished block's. -/
theorem copied_eq {α : Type} (x : Dev nD → S512x1024.Idx → α) (c d : Dev nD) (j : S512x512.Idx) (dst : S1024x512.Idx) (src : S512x1024.Idx)
    (hplace : d.val % 16 = c.val % 16)
    (hdst : (dst 0).val = 512 * (d.val / 16) + (j 0).val ∧ (dst 1).val = (j 1).val)
    (hsrc : (src 0).val = (j 0).val ∧ (src 1).val = 512 * (c.val / 16) + (j 1).val) : x d src = gathered x c dst := by
  have hj : (j 0).val < 512 := (j 0).isLt
  refine gathered_eq x c d dst src ?_ ?_ ?_
  · rw [hdst.1, ← hplace]; omega
  · rw [hdst.1, hsrc.1]; omega
  · rw [hdst.2, hsrc.2]

/-- The copy leaves the finished block's elements in the partner's landing rows. -/
theorem landed_at (x : Dev nD → (cc0_stg0_0 : Ref sig .tc).ty.Contents (Elt F)) (c : Dev nD) (f : (cc0_stg1_0 : Ref sig .tc).ty.Contents (Elt F))
    (i : S1024x512.Idx) (hi : i ∈ landing c) :
    (landM c).view.write (Elt F) f ((sentM c).view.read (Elt F) (x c)) Finset.univ i = gathered x (peer c) i := by
  obtain ⟨j, -, rfl⟩ := Finset.mem_map.mp hi
  rw [View.write_emb_of_mem _ _ (Finset.mem_univ j)]
  refine copied_eq x (peer c) c j ((landRect c).emb j) ((sentRect c).emb j) (place_peer c).symm (land_coords c j) ?_
  have hc := half_lt c
  have e : 512 * ((peer c).val / 16) = 512 - 512 * (c.val / 16) := by rw [half_peer]; omega
  rw [e]; exact sent_coords c j

/-- The store leaves the finished block's elements in the rows it names. -/
theorem stored_at (x : Dev nD → (cc0_stg0_0 : Ref sig .tc).ty.Contents (Elt F)) (c : Dev nD) (f : (cc0_stg1_0 : Ref sig .tc).ty.Contents (Elt F))
    (i : S1024x512.Idx) (hi : i ∈ Finset.univ \ landing (peer c)) :
    (oM.access (ownRect c)).write (Elt F) f (k0_pay1 (xM.view.readAt (Elt F) (keptRect c).toLoadRect (x c))) Finset.univ i
      = gathered x c i := by
  rw [← own_rows_eq, ← Rect.map_emb_univ] at hi
  obtain ⟨j, -, rfl⟩ := Finset.mem_map.mp hi
  unfold k0_pay1
  rw [shapeCast_self]
  refine (View.write_emb_of_mem (v := oM.access (ownRect c)) f _ (Finset.mem_univ j)).trans ?_
  exact copied_eq x c c j ((ownRect c).emb j) ((keptRect c).emb j) rfl (own_coords c j) (kept_coords c j)

end Cert.KernelIdeal.Exchange

end
-- ==== Proof.Protocol.lean ====
/-
# The protocol of the exchange

Three semaphores of each device take part, and this module treats them alike, as the `Fin 3` of cells `cell c k`: the
barrier semaphore (`0`), the copy's send semaphore (`1`) and its receive semaphore (`2`). Each is paid once and waited for
once:

* the barrier cell by the partner's signal of one unit, with which the partner gives device `c` the rows of its result that
  `c`'s copy fills (`pay c 0`);
* the send cell by the device's own copy, which gives back the columns it has read (`pay c 1`);
* the receive cell by the partner's copy, which gives the rows it has filled, now holding what they end with (`pay c 2`).

`schedule` says so to the rounds library. A device owes its partner's receive cell and barrier cell from the start
(`debt₀`), and may wait for its own barrier cell while it owes the other's receive cell, because receive cells stand above
barrier cells (`rank`).
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds and the exchange's, side by side -/

/-- The exchange's ghost state, -/
abbrev XU : Type := URounds (GSem nD τ sig) Unit
/-- and the pipeline's beside it. -/
abbrev GU : Type := UR sig nD τ × XU

local notation "𝕄" => MT nD τ sig Unit (Elt F) ℕ GU ℕ

/-- The pipeline's part of the ghost state, -/
abbrev EP : Emb (UR sig nD τ) (MT nD τ sig Unit (Elt F) ℕ GU ℕ) := embL
/-- and the exchange's. -/
abbrev EX : Emb XU (MT nD τ sig Unit (Elt F) ℕ GU ℕ) := embR

/-! ## The cells -/

/-- The barrier semaphore. -/
abbrev barS : Sem sig := (SemArray.scalar (sig.barrier 0 rfl) : Sems sig S_).sem

/-- The three semaphores: barrier, send, receive. -/
abbrev semOf : Fin 3 → SemLoc sig := fun | 0 => .reg barS | 1 => .dma cc0_scratch0.sem | 2 => .dma cc0_scratch1.sem

/-- Semaphore `k` of device `c`. -/
abbrev cell (c : Dev nD) (k : Fin 3) : GSem nD τ sig := ((c : Thread nD τ), semOf k)

/-- The three are different semaphores. -/
theorem semOf_injective : Function.Injective semOf := by decide

/-- Cells are told apart by device and kind. -/
theorem cell_inj {c d : Dev nD} {k l : Fin 3} (h : cell c k = cell d l) : c = d ∧ k = l :=
  ⟨congrArg (fun g : GSem nD τ sig => g.1.1) h, semOf_injective (congrArg Prod.snd h)⟩

/-- Which of the three a semaphore is, if any. -/
def kindOf (s : SemLoc sig) : Option (Fin 3) :=
  if s = semOf 0 then some 0 else if s = semOf 1 then some 1 else if s = semOf 2 then some 2 else none

/-- The three semaphores' kinds are `0`, `1` and `2`. -/
theorem kindOf_semOf (k : Fin 3) : kindOf (semOf k) = some k := by revert k; decide

/-- The bytes of one copy, as its semaphores count them. -/
def N : ℕ := (cc0_stg1_0 : Ref sig .tc).dmaCredit S512x512 .f32
/-- What the copy pays is the credit of the rows it fills -/
theorem land_credit (c : Dev nD) : (landM c).view.dmaCredit = N := rfl
/-- and of the columns it reads, -/
theorem sent_credit (c : Dev nD) : (sentM c).view.dmaCredit = N := rfl
/-- and that is not zero. -/
theorem N_pos : 0 < N := by rw [← land_credit 0]; exact View.dmaCredit_pos _ (by decide)

/-- What each kind of cell is paid: one unit, or the copy. -/
def units : Fin 3 → ℕ := fun | 0 => 1 | 1 => N | 2 => N

/-- Every payment is of something. -/
theorem units_pos (k : Fin 3) : 0 < units k := by
  match k with
  | 0 => exact Nat.one_pos
  | 1 => exact N_pos
  | 2 => exact N_pos

/-- The device that pays cell `(c, k)`, and, as this is an involution, whose cell of kind `k` device `c` pays. -/
def other (c : Dev nD) : Fin 3 → Dev nD := fun | 0 => peer c | 1 => c | 2 => peer c

/-- `other` is an involution at each kind. -/
theorem other_other (c : Dev nD) (k : Fin 3) : other (other c k) k = c := by
  match k with
  | 0 => exact peer_peer c
  | 1 => rfl
  | 2 => exact peer_peer c

/-! ## What a payment hands over -/

section
variable (x : Dev nD → (cc0_stg0_0 : Ref sig .tc).ty.Contents (Elt F))

/-- The rows of device `d`'s result that its partner's copy fills, at contents `f`. -/
def landPts (d : Dev nD) (f : Buf (Elt F) ((d : Thread nD τ).loc cc0_stg1_0)) : sProp 𝕄 :=
  ((d : Thread nD τ).loc cc0_stg1_0) ↦[landing (peer d)]{fullShare} f

/-- The columns of its input that device `c` sends. -/
def sentPts (c : Dev nD) : sProp 𝕄 := ((c : Thread nD τ).loc cc0_stg0_0) ↦[sent c]{fullShare} x c

/-- What the payment of cell `(c, k)` hands device `c`. -/
def pay (c : Dev nD) : Fin 3 → sProp 𝕄 := fun
  | 0 => iprop(∃ f, landPts (peer c) f)
  | 1 => sentPts x c
  | 2 => landPts c (gathered x c)

omit [FloatOps F] in
/-- What a payment hands over can be stored in an invariant, -/
instance pay_storable (c : Dev nD) (k : Fin 3) : BI.Storable (upEmb : UEmb _ 𝕄) (pay (F := F) x c k) := by
  match k with
  | 0 => unfold pay landPts; infer_instance
  | 1 => unfold pay sentPts; infer_instance
  | 2 => unfold pay landPts; infer_instance

/-- The schedule: one payment in the first round of every cell of the exchange, nothing elsewhere or later. -/
def schedule : Rounds.Schedule (GSem nD τ sig) Unit 𝕄 where
  duties g r := if r = 0 ∧ g.1.2 = .tc ∧ (kindOf g.2).isSome then {()} else ∅
  unitless _ := False
  amount g _ _ := (kindOf g.2).elim 1 units
  payload g _ _ := (kindOf g.2).elim iprop(emp) (pay x g.1.1)
  amount_pos g _ _ _ := by
    cases kindOf g.2 with
    | none => exact Nat.one_pos
    | some k => exact units_pos k

omit [FloatOps F] in
/-- and so can all that the schedule names. -/
instance schedule_storable (g : GSem nD τ sig) (r : ℕ) (d : Unit) :
    BI.Storable (upEmb : UEmb _ 𝕄) ((schedule (F := F) x).payload g r d) := by
  show BI.Storable upEmb ((kindOf g.2).elim iprop(emp) (pay x g.1.1))
  cases kindOf g.2 with
  | none => show BI.Storable upEmb (iprop(emp) : sProp 𝕄); infer_instance
  | some k => exact pay_storable x g.1.1 k

variable (c : Dev nD) (k : Fin 3)

omit [FloatOps F] in
/-- A cell's first round has the one payment, -/
theorem duties_first : (schedule (F := F) x).duties (cell c k) 0 = {()} := by
  dsimp only [schedule]; rw [kindOf_semOf]; exact if_pos ⟨rfl, rfl, rfl⟩
omit [FloatOps F] in
/-- which is due in it, -/
theorem duty_mem : () ∈ (schedule (F := F) x).duties (cell c k) 0 := by rw [duties_first]; exact Finset.mem_singleton_self _
omit [FloatOps F] in
/-- and no later round has any. -/
theorem duties_later (g : GSem nD τ sig) (r : ℕ) (hr : 1 ≤ r) : (schedule (F := F) x).duties g r = ∅ := by
  dsimp only [schedule]; exact if_neg fun h => by omega
omit [FloatOps F] in
/-- Each payment's amount, -/
theorem amount_eq (r : ℕ) (d : Unit) : (schedule (F := F) x).amount (cell c k) r d = units k := by
  dsimp only [schedule]; rw [kindOf_semOf]; rfl
omit [FloatOps F] in
/-- what it hands over, -/
theorem payload_eq (r : ℕ) (d : Unit) : (schedule (F := F) x).payload (cell c k) r d = pay x c k := by
  dsimp only [schedule]; rw [kindOf_semOf]; rfl
omit [FloatOps F] in
/-- and what the first round comes to. -/
theorem expect_eq : (schedule (F := F) x).expect (cell c k) 0 = units k := by
  unfold Schedule.expect Schedule.amountOf; rw [duties_first, Finset.sum_singleton, amount_eq]
omit [FloatOps F] in
/-- The wait for a cell's round yields its one payment. -/
theorem yield_eq : bigSep ((schedule (F := F) x).duties (cell c k) 0 \ ∅) (fun d => (schedule (F := F) x).payload (cell c k) 0 d) = pay x c k := by
  rw [Finset.sdiff_empty, duties_first, bigSep_singleton, payload_eq]

end

/-! ## What a device owes, and in what order cells may be waited for -/

/-- After its signal a device owes its partner's receive cell the copy; -/
def debt₁ (c : Dev nD) : CellTallies nD τ sig Unit := tallyAt (cell (peer c) 2) () (units 2)
/-- before it, the signal too. -/
def debt₀ (c : Dev nD) : CellTallies nD τ sig Unit := debt₁ c + tallyAt (cell (peer c) 0) () (units 0)

/-- Waits are accounted for on the TensorCores, -/
def onTcs (g : GSem nD τ sig) : Finset Unit := if g.1.2 = .tc then {()} else ∅
/-- where receive cells stand above barrier cells and these above all others. -/
def rank (g : GSem nD τ sig) (_ : Unit) : ℕ := (kindOf g.2).elim 0 fun | 0 => 1 | 1 => 0 | 2 => 2

/-- No other core has any. -/
theorem onTcs_of_ne (g : GSem nD τ sig) (h : g.1.2 ≠ .tc) : onTcs g = ∅ := if_neg h
/-- A TensorCore has the one. -/
theorem mem_onTcs (c : Dev nD) (s : SemLoc sig) : () ∈ onTcs ((c : Thread nD τ), s) := by
  rw [show onTcs ((c : Thread nD τ), s) = {()} from if_pos rfl]; exact Finset.mem_singleton_self _
/-- The ranks of the three cells. -/
theorem rank_cell (c : Dev nD) (k : Fin 3) : rank (cell c k) () = (fun | 0 => 1 | 1 => 0 | 2 => 2 : Fin 3 → ℕ) k := by
  dsimp only [rank]; rw [kindOf_semOf]; rfl

/-- A tally of one cell is positive there only. -/
theorem eq_of_tally_pos {g h : GSem nD τ sig} {n : ℕ} {u : Unit} (hp : 0 < (tallyAt h () n : CellTallies nD τ sig Unit) g u) : g = h := by
  rw [tallyAt_apply] at hp
  by_contra hn
  rw [if_neg fun e => hn e.1] at hp
  exact Nat.lt_irrefl 0 hp

/-- After the signal, only the partner's receive cell is owed to. -/
theorem debt₁_cells {c : Dev nD} {g : GSem nD τ sig} {u : Unit} (h : 0 < debt₁ c g u) : g = cell (peer c) 2 := eq_of_tally_pos h

/-- From the start, only the partner's receive and barrier cells are. -/
theorem debt₀_cells {c : Dev nD} {g : GSem nD τ sig} {u : Unit} (h : 0 < debt₀ c g u) : ∃ k : Fin 3, k ≠ 1 ∧ g = cell (peer c) k := by
  unfold debt₀ at h
  rw [Pi.add_apply, Finsupp.add_apply] at h
  by_cases h1 : 0 < debt₁ c g u
  · exact ⟨2, by decide, debt₁_cells h1⟩
  · exact ⟨0, by decide, eq_of_tally_pos (by omega : 0 < (tallyAt (cell (peer c) 0) () (units 0) : CellTallies nD τ sig Unit) g u)⟩

omit [FloatOps F] in
/-- A device may wait for a semaphore that stands below every cell it owes. -/
theorem mayWait_below (c : Dev nD) (s : SemLoc sig) (O : CellTallies nD τ sig Unit)
    (h : ∀ g u, 0 < O g u → ∃ (d : Dev nD) (k : Fin 3), g = cell d k ∧ rank ((c : Thread nD τ), s) () < rank (cell d k) ()) :
    (levAts onTcs rank : sProp 𝕄) ⊢ MayWait (c : Thread nD τ) s () O :=
  MayOwe.of_cut (L := onTcs) (lev := rank) (rank ((c : Thread nD τ), s) ())
    (fun p hp => by rw [Finset.mem_singleton.mp hp]; exact mem_onTcs c s)
    (fun g u hg => by obtain ⟨d, k, rfl, -⟩ := h g u hg; exact mem_onTcs d _)
    (fun p hp => by rw [Finset.mem_singleton.mp hp])
    (fun g u hg => by obtain ⟨d, k, rfl, hlt⟩ := h g u hg; exact hlt)

omit [FloatOps F] in
/-- So for its barrier cell while it owes the copy, -/
theorem mayWait_barrier (c : Dev nD) : (levAts onTcs rank : sProp 𝕄) ⊢ MayWait (c : Thread nD τ) (semOf 0) () (debt₁ c) :=
  mayWait_below c _ _ fun g u hg => ⟨peer c, 2, debt₁_cells hg, by
    rw [show rank ((c : Thread nD τ), semOf 0) () = _ from rank_cell c 0, rank_cell]; decide⟩

omit [FloatOps F] in
/-- and for a semaphore that is none of the three while it owes anything. -/
theorem mayWait_staging (c : Dev nD) (s : SemLoc sig) (hs : kindOf s = none) :
    (levAts onTcs rank : sProp 𝕄) ⊢ MayWait (c : Thread nD τ) s () (debt₀ c) :=
  mayWait_below c _ _ fun g u hg => by
    obtain ⟨k, hk, rfl⟩ := debt₀_cells hg
    refine ⟨peer c, k, rfl, ?_⟩
    rw [show rank ((c : Thread nD τ), s) () = 0 by dsimp only [rank]; rw [hs]; rfl, rank_cell]
    match k, hk with
    | 0, _ => exact Nat.one_pos
    | 2, _ => exact Nat.two_pos

end Cert.KernelIdeal.Exchange

end
-- ==== Proof.Body.lean ====
/-
# One device's run of the kernel

`body_run` carries the kernel's operations, in program order, from what a device starts with (`start`, its input staged,
its staged result at whatever it holds) to what it ends with (`finish`, its staged result at `gathered`). The device cuts
its staged result in two: the rows its partner fills, which go to the partner with the signal and come back filled with the
receive semaphore, and the others, which it stores itself. It cuts its staged input likewise: the columns it sends, which
its copy holds until the send semaphore gives them back, and the rest, from which it loads meanwhile.
-/
module

public import proofs.«01_k».proof.Proof.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ)

/-- Device `c`'s input, as the pipeline stages it. -/
def input (c : Dev nD) : (cc0_stg0_0 : Ref sig .tc).ty.Contents (Elt F) :=
  (win0_0.blk (0 : Fin 1)).view.read (Elt F) (m ((c : Thread nD τ).loc main_arg0))

/-- What device `c` ends with. -/
def output (c : Dev nD) : (cc0_stg1_0 : Ref sig .tc).ty.Contents (Elt F) := gathered (input m) c

/-! ## What a device starts and ends with -/

/-- What every device knows of every cell: the cell's invariant, and that its first round is open. -/
def records (K : Dev nD × Fin 3 → ℕ) : sProp 𝕄 :=
  iprop((bigSep Finset.univ fun a : Dev nD × Fin 3 => cellInv EX (schedule (input m)) (K a) (cell a.1 a.2))
    ∗ bigSep Finset.univ fun a : Dev nD × Fin 3 => reached EX (cell a.1 a.2) 0)

/-- The records can be copied. -/
instance records_persistent (K : Dev nD × Fin 3 → ℕ) : BI.Persistent (records m K) := by unfold records; infer_instance

omit [FloatOps F] in
/-- The records hold every cell's invariant, -/
theorem records_inv (K : Dev nD × Fin 3 → ℕ) (c : Dev nD) (k : Fin 3) :
    records m K ⊢ cellInv EX (schedule (input m)) (K (c, k)) (cell c k) := by
  have h : (bigSep Finset.univ fun a : Dev nD × Fin 3 => (cellInv EX (schedule (input m)) (K a) (cell a.1 a.2) : sProp 𝕄))
      ⊢ cellInv EX (schedule (input m)) (K (c, k)) (cell c k) := bigSep_elim (Finset.mem_univ (c, k))
  unfold records
  iintro ⟨H, -⟩
  iapply h
  iexact H
omit [FloatOps F] in
/-- and that every cell has reached its first round. -/
theorem records_reached (K : Dev nD × Fin 3 → ℕ) (c : Dev nD) (k : Fin 3) : records m K ⊢ reached EX (cell c k) 0 := by
  have h : (bigSep Finset.univ fun a : Dev nD × Fin 3 => (reached EX (cell a.1 a.2) 0 : sProp 𝕄)) ⊢ reached EX (cell c k) 0 :=
    bigSep_elim (Finset.mem_univ (c, k))
  unfold records
  iintro ⟨-, H⟩
  iapply h
  iexact H

/-- What is device `c`'s alone: for each kind, the right to wait for its own cell and the right to pay its counterpart's. -/
def rights (c : Dev nD) : sProp 𝕄 :=
  bigSep Finset.univ fun k : Fin 3 => iprop(atPos EX (cell c k) 0 ∅ 0 ∗ dutyTok EX (cell (other c k) k) 0 ())

/-- The exchange's ghost state of device `c`, at whatever names the launch chose. -/
def ghost (c : Dev nD) : sProp 𝕄 := iprop(∃ K, records m K ∗ rights c)

/-- What device `c` starts from: the ghost state, the credit of the two cells its partner pays, and the cells' order. -/
def start (c : Dev nD) : sProp 𝕄 :=
  iprop(ghost m c ∗ (cred (tallyAt (cell c 0) () (units 0)) ∗ cred (tallyAt (cell c 2) () (units 2))) ∗ levAts onTcs rank)

/-- What it ends with beside the staged blocks: its three semaphores at zero. -/
def finish (c : Dev nD) : sProp 𝕄 := iprop(semVal (cell c 0) 0 ∗ semVal (cell c 1) 0 ∗ semVal (cell c 2) 0)

/-- The proof data of the pipeline around the kernel, which has one point. -/
def dats (_ : Fin 1) (c : Dev nD) : Dat τ (Elt F) Unit ℕ GU ℕ cfg0 c where
  A w := m ((cfg0.win w).arr.view.loc (c : Thread nD τ))
  after w _ := match w with
    | ⟨0, _⟩ => input m c
    | ⟨1, _⟩ => output m c
  Φ t := match t with
    | ⟨0, _⟩ => start m c
    | ⟨_ + 1, _⟩ => finish c
  q _ := fullShare
  owed t := match t with
    | ⟨0, _⟩ => debt₀ c
    | ⟨_ + 1, _⟩ => 0

/-- The pipeline's one point. -/
abbrev pt : Fin cfg0.N := t0_0
/-- It is the only one. -/
theorem pt_eq (t : Fin cfg0.N) : t = pt := fin_N0 t

/-! ## Cutting the staged blocks and putting them together -/

omit [FloatOps F] in
/-- A whole staged buffer, cut along a set of its elements. -/
theorem cut (c : Dev nD) (b : Ref sig .tc) (I : Finset b.ty.Idx) (f : Buf (Elt F) ((c : Thread nD τ).loc b)) :
    (((c : Thread nD τ).loc b) ↦{fullShare} f : sProp 𝕄)
      ⊣⊢ iprop((((c : Thread nD τ).loc b) ↦[I]{fullShare} f) ∗ ((c : Thread nD τ).loc b) ↦[Finset.univ \ I]{fullShare} f) :=
  pointsTo_split_subset (Finset.subset_univ I)

/-- A device's staged result is whole once the partner's copy has landed and its own store is made. -/
theorem whole_output (c : Dev nD) (f : Buf (Elt F) ((c : Thread nD τ).loc cc0_stg1_0)) :
    iprop(landPts c (output m c)
        ∗ (((c : Thread nD τ).loc cc0_stg1_0) ↦[Finset.univ \ landing (peer c)]{fullShare}
            ((oM.access (ownRect c)).write (Elt F) f (k0_pay1 (xM.view.readAt (Elt F) (keptRect c).toLoadRect (input m c))) Finset.univ)))
      ⊢ (((c : Thread nD τ).loc cc0_stg1_0) ↦{fullShare} output m c : sProp 𝕄) := by
  refine (sep_mono_right (Entails.of_eq (pointsTo_congr (g := output m c) (stored_at (input m) c f)))).trans ?_
  unfold landPts
  exact (cut c cc0_stg1_0 (landing (peer c)) (output m c)).2

omit [FloatOps F] in
/-- The columns loaded are none of those sent. -/
theorem kept_below (c : Dev nD) : xM.view.setOn (keptRect c).toLoadRect.set ⊆ Finset.univ \ sent c := by
  intro i hi
  obtain ⟨j, hj, rfl⟩ := Finset.mem_map.mp hi
  exact kept_subset c hj
omit [FloatOps F] in
/-- The rows loaded from the result are none of those the partner's copy fills, -/
theorem own_load_below (c : Dev nD) : oM.view.setOn (ownRect c).toLoadRect.set ⊆ Finset.univ \ landing (peer c) := by
  intro i hi
  obtain ⟨j, hj, rfl⟩ := Finset.mem_map.mp hi
  rw [← own_rows_eq]; exact hj
omit [FloatOps F] in
/-- nor are the rows stored. -/
theorem own_store_below (c : Dev nD) :
    (oM.access (ownRect c)).setOn (Finset.univ : Finset (ownRect c).shape.Idx) ⊆ Finset.univ \ landing (peer c) := by
  rw [← own_rows_eq, View.setOn_univ]
  exact (View.set_slice_whole _ _).subset

/-! ## The copy -/

/-- The copy to the partner: given the columns to send and the partner's rows to fill, the device pays both semaphores and
    owes nothing more. The device addressed is a variable equal to the partner. -/
theorem copy_step (K : Dev nD × Fin 3 → ℕ) (c n : Dev nD) (hn : n = peer c)
    {hsc : (landM c : Memref sig (Dev.tc n : Thread nD τ).2.kind .vmem S512x512 .f32).view.ref.isScScratch = false}
    {hsrc : (sentM c).view.WordExact} {hdst : (landM c).view.WordExact}
    {hsem : DmaTarget.Typed .vmem (.dma cc0_scratch1.sem)
      (.remote (Dev.tc n : Thread nD τ) (landM c : Memref sig .tc .vmem S512x512 .f32) (.dma cc0_scratch0.sem) hsc)}
    {α : Type} {Q : α → sProp 𝕄} {k : PUnit → Prog (TpuEff nD τ sig (Elt F) Λ₀ .tc) α}
    (f : Buf (Elt F) ((peer c : Thread nD τ).loc cc0_stg1_0)) (W : Waits sig Unit) :
    iprop(records m K ∗ sentPts (input m) c ∗ landPts (peer c) f ∗ owes (c : Thread nD τ) (debt₁ c) W
        ∗ dutyTok EX (cell c 1) 0 () ∗ dutyTok EX (cell (peer c) 2) 0 ())
      ⊢ iprop(((cred (tallyAt (cell c 1) () (units 1)) ∗ owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (sentM c) (.remote (Dev.tc n : Thread nD τ) (landM c) (.dma cc0_scratch0.sem) hsc) (.dma cc0_scratch1.sem) hsrc hdst hsem) k) Q) := by
  subst hn
  iintro ⟨#HR, Hx, Hf, HO, HtS, HtR⟩
  unfold sentPts landPts
  rw [peer_peer]
  iapply (Rounds.wp_send_pointsTo Variants.none EX (schedule (input m)) (c : Thread nD τ) none (κ₁ := K (c, 1)) (κ₂ := K (peer c, 2))
    (r₁ := 0) (r₂ := 0) (d₁ := ()) (d₂ := ()) (fd := f)
    (duty_mem _ c 1) (duty_mem _ (peer c) 2)
    () () (units 2) (land_credit c) (amount_eq _ c 1 0 ()) (amount_eq _ (peer c) 2 0 ()) 0 (by rw [zero_add]) (W := W)
    (by rw [payload_eq]; exact BI.Entails.refl _)
    (by
      rw [payload_eq]
      refine Entails.of_eq ?_
      show _ = landPts (peer c) (gathered (input m) (peer c))
      unfold landPts
      rw [peer_peer]
      exact pointsTo_congr fun i hi => landed_at (input m) c f i hi)) $$ [Hx Hf HO HtS HtR]
  isplitr; · iapply (records_inv m K c 1); iexact HR
  isplitr; · iapply (records_inv m K (peer c) 2); iexact HR
  isplitl [Hx]; · iexact Hx
  isplitl [Hf]; · iexact Hf
  isplitl [HO]; · iexact HO
  isplitl [HtS]; · iexact HtS
  isplitr; · iapply (records_reached m K c 1); iexact HR
  isplitl [HtR]; · iexact HtR
  iapply (records_reached m K (peer c) 2); iexact HR

/-! ## The run -/

/-- A staged block, whole, at contents equal to `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- Three cells, one by one. -/
theorem three_eq (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A device's rights, one by one. -/
theorem rights_eq (c : Dev nD) : (rights c : sProp 𝕄)
    = iprop((atPos EX (cell c 0) 0 ∅ 0 ∗ dutyTok EX (cell (peer c) 0) 0 ()) ∗ (atPos EX (cell c 1) 0 ∅ 0 ∗ dutyTok EX (cell c 1) 0 ())
        ∗ (atPos EX (cell c 2) 0 ∅ 0 ∗ dutyTok EX (cell (peer c) 2) 0 ())) := by
  unfold rights; exact three_eq _

/-- The wait for one of the device's own cells, whole: its one payment comes with it, and the cell can be closed. -/
theorem wait_step (K : Dev nD × Fin 3 → ℕ) (c : Dev nD) (k : Fin 3) {w : TpuEff nD τ sig (Elt F) Λ₀ .tc PUnit} {n : ℕ} (hn : n = units k)
    (hw : ∀ Q : PUnit → sProp 𝕄, wpE (defs₀ (F := F)) Variants.none (c : Thread nD τ) none Set.univ w Q
      = waitSpec (c : Thread nD τ) Set.univ (semOf k) n Q)
    {α : Type} {Q : α → sProp 𝕄} {next : PUnit → Prog (TpuEff nD τ sig (Elt F) Λ₀ .tc) α} {O : CellTallies nD τ sig Unit} {W : Waits sig Unit} :
    iprop(records m K ∗ cred (tallyAt (cell c k) () (units k)) ∗ owes (c : Thread nD τ) O W ∗ MayWait (c : Thread nD τ) (semOf k) () O
        ∗ atPos EX (cell c k) 0 ∅ 0)
      ⊢ iprop(((owes (c : Thread nD τ) O (insert (semOf k, ()) W) ∗ atPos EX (cell c k) 1 ∅ 0 ∗ pay (input m) c k)
            -∗ wp frame (wpE (defs₀ (F := F)) Variants.none (c : Thread nD τ) none) Set.univ (next ⟨⟩) Q)
          -∗ wp frame (wpE (defs₀ (F := F)) Variants.none (c : Thread nD τ) none) Set.univ (.op w next) Q) := by
  subst hn
  iintro ⟨#HR, Hc, HO, Hm, Hat⟩ Hk
  iapply (Rounds.wp_wait_rest_token Variants.none EX (schedule (input m)) (c : Thread nD τ) none (κ := K (c, k)) hw (Set.mem_univ _) ()
    (O := O) (W := W) (R := 0) (m := 0) (T := ∅) (by rw [expect_eq, Nat.zero_add])) $$ [Hc HO Hm Hat]
  · isplitr; · iapply (records_inv m K c k); iexact HR
    isplitl [Hc]; · iexact Hc
    isplitl [HO]; · iexact HO
    isplitl [Hm] <;> iassumption
  iintro ⟨HO, Hat, -, Hp⟩
  iapply Hk
  isplitl [HO]; · iexact HO
  isplitl [Hat]; · iexact Hat
  iapply (Entails.of_eq (yield_eq (input m) c k)); iexact Hp

/-- A cell waited for is at zero and out of use. -/
theorem close_step (K : Dev nD × Fin 3 → ℕ) (c : Dev nD) (k : Fin 3) :
    iprop(records m K ∗ atPos EX (cell c k) 1 ∅ 0) ⊢ (iprop(|={Set.univ}=> semVal (cell c k) 0) : sProp 𝕄) := by
  iintro ⟨#HR, Hat⟩
  iapply (Rounds.cell_close EX (schedule (input m)) (Set.mem_univ (K (c, k))) (fun h => h) (R := 1) (duties_later (input m) (cell c k)))
  isplitr; · iapply (records_inv m K c k); iexact HR
  iexact Hat

set_option maxHeartbeats 800000 in
/-- Device `c`'s kernel, from its ghost state, its input staged and its result's buffer at anything, to the finished block. -/
theorem body_run (K : Dev nD × Fin 3 → ℕ) (c : Dev nD) (fo : Buf (Elt F) ((c : Thread nD τ).loc cc0_stg1_0)) (W : Waits sig Unit) (Q : PUnit → sProp 𝕄) :
    iprop(records m K ∗ rights c ∗ (cred (tallyAt (cell c 0) () (units 0)) ∗ cred (tallyAt (cell c 2) () (units 2))) ∗ levAts onTcs rank
        ∗ owes (c : Thread nD τ) (debt₀ c) W
        ∗ (((c : Thread nD τ).loc cc0_stg0_0) ↦{fullShare} input m c) ∗ (((c : Thread nD τ).loc cc0_stg1_0) ↦{fullShare} fo)
        ∗ (iprop(finish c ∗ (∃ W', owes (c : Thread nD τ) 0 W')
            ∗ (((c : Thread nD τ).loc cc0_stg0_0) ↦{fullShare} input m c) ∗ (((c : Thread nD τ).loc cc0_stg1_0) ↦{fullShare} output m c)) -∗ Q ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _) cc0_scratch0 cc0_scratch1) Q := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  simp only [signal_dev c]
  rw [rights_eq]
  iintro ⟨#HR, ⟨⟨HaB, HtB⟩, ⟨HaS, HtS⟩, HaV, HtV⟩, ⟨HcB, HcV⟩, #Hlev, HO, Hx, Ho, Hk⟩
  -- the two staged blocks, cut
  ihave Ho' := (cut c cc0_stg1_0 (landing (peer c)) fo).1 $$ Ho
  icases Ho' with ⟨Hland, Hown⟩
  ihave Hx' := (cut c cc0_stg0_0 (sent c) (input m c)).1 $$ Hx
  icases Hx' with ⟨Hsent, Hkept⟩
  -- the signal gives the partner the rows it fills
  iapply (Rounds.wp_signal Variants.none EX (schedule (input m)) (c : Thread nD τ) none (dst := (peer c : Thread nD τ)) (κ := K (peer c, 0))
      (d := ()) (duty_mem _ (peer c) 0) ((amount_eq _ (peer c) 0 0 ()).trans (by decide)) () (debt₁ c) rfl) $$ [HO HtB Hland]
  · isplitr; · iapply (records_inv m K (peer c) 0); iexact HR
    isplitl [HO]; · iexact HO
    isplitl [HtB]; · iexact HtB
    isplitl [Hland]
    · iapply (Entails.of_eq (payload_eq (input m) (peer c) 0 0 ()).symm)
      unfold pay landPts
      rw [peer_peer]
      iexists fo
      iexact Hland
    iapply (records_reached m K (peer c) 0); iexact HR
  iintro HO
  -- the barrier gives this device the partner's
  iapply (wait_step m K c 0 rfl (wpE_semWait_eq Variants.none (c : Thread nD τ) none Set.univ)) $$ [HcB HO HaB]
  · isplitr; · iexact HR
    isplitl [HcB]; · iexact HcB
    isplitl [HO]; · iexact HO
    isplitr; · iapply (mayWait_barrier c); iexact Hlev
    iexact HaB
  iintro ⟨HO, HaB, Hp⟩
  unfold pay
  icases Hp with ⟨%fp, Hfill⟩
  -- the copy
  iapply (copy_step m K c _ (copy_dev c) fp _) $$ [Hsent Hfill HO HtS HtV]
  · isplitr; · iexact HR
    isplitl [Hsent]; · unfold sentPts; iexact Hsent
    isplitl [Hfill]; · iexact Hfill
    isplitl [HO]; · iexact HO
    isplitl [HtS] <;> iassumption
  iintro ⟨HcS, HO⟩
  -- the device's own block, from the columns it keeps to the rows it keeps
  iapply (wp_load Variants.none (c : Thread nD τ) none Set.univ (m := xM) (kept_below c)) $$ Hkept; iintro Hkept
  iapply (wp_load Variants.none (c : Thread nD τ) none Set.univ (m := oM) (own_load_below c)) $$ Hown; iintro Hown
  iapply (wp_store Variants.none (c : Thread nD τ) none Set.univ (m := oM) (r := ownRect c) (Mk := Finset.univ) (own_store_below c)) $$ Hown
  iintro Hown
  -- the copy has read its columns
  iapply (wait_step m K c 1 (sent_credit c) (wpE_waitDma2_eq Variants.none (c : Thread nD τ) none Set.univ)) $$ [HcS HO HaS]
  · isplitr; · iexact HR
    isplitl [HcS]; · iexact HcS
    isplitl [HO]; · iexact HO
    isplitr; · rw [MayWait_zero]; iempintro
    iexact HaS
  iintro ⟨HO, HaS, Hsent⟩
  -- the partner's copy has filled its rows
  iapply (wait_step m K c 2 (land_credit c) (wpE_waitDma2_eq Variants.none (c : Thread nD τ) none Set.univ)) $$ [HcV HO HaV]
  · isplitr; · iexact HR
    isplitl [HcV]; · iexact HcV
    isplitl [HO]; · iexact HO
    isplitr; · rw [MayWait_zero]; iempintro
    iexact HaV
  iintro ⟨HO, HaV, Hland⟩
  -- the three cells are out of use
  imod (close_step m K c 0) $$ [HaB] with HzB
  · isplitr; · iexact HR
    iexact HaB
  imod (close_step m K c 1) $$ [HaS] with HzS
  · isplitr; · iexact HR
    iexact HaS
  imod (close_step m K c 2) $$ [HaV] with HzV
  · isplitr; · iexact HR
    iexact HaV
  -- and the staged blocks whole
  rw [wp_ret]; imodintro
  iapply Hk
  isplitl [HzB HzS HzV]
  · unfold finish
    isplitl [HzB]; · iexact HzB
    isplitl [HzS] <;> iassumption
  isplitl [HO]; · iexists _; iexact HO
  isplitl [Hsent Hkept]
  · iapply (cut c cc0_stg0_0 (sent c) (input m c)).2
    isplitl [Hsent]; · unfold pay sentPts; iexact Hsent
    iexact Hkept
  iapply (whole_output m c fo)
  isplitl [Hland]; · unfold pay; iexact Hland
  iexact Hown

end Cert.KernelIdeal.Exchange

end
-- ==== Proof.Launch.lean ====
/-
# The run of the whole mesh

The kernel of every device at once: the ghost state is made for all cells together, each cell's right to be paid is dealt to
the device that pays it (`deal`), and `run_main` concludes that every execution ends with each device's result array at
what the pipeline writes back, its argument array as it was, and every semaphore at zero.
-/
module

public import proofs.«01_k».proof.Proof.Body
public import proofs.«01_k».proof.Proof.Gen.KernelIdeal.Points
public import Idealize.ShloMosaic.Lib.Pipeline.Quiescent

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-! ## The kernel as the pipeline runs it -/

omit [FloatOps F] in
/-- Owning a whole buffer through its memref is holding all its elements. -/
theorem owns_staged (c : Dev nD) (b : Ref sig .tc) (X : b.ty.Contents (Elt F)) :
    (owns (Ix := Unit) (Name := ℕ) (U := GU) (Lvl := ℕ) (c : Thread nD τ) (Memref.whole b) fullShare X : sProp 𝕄) = staged c b X := by
  unfold owns; simp only [Memref.view_whole, View.read_whole, View.set_whole]

/-- Two windows, one by one. -/
theorem windows_eq (Φ : Fin cfg0.W → sProp 𝕄) : bigSep Finset.univ Φ = iprop(Φ (0 : Fin 2) ∗ Φ (1 : Fin 2)) := bigSep_W0 Φ

/-- What the pipeline hands the kernel on device `c`. -/
def handed (c : Dev nD) : sProp 𝕄 :=
  iprop(start m c ∗ (dats m 0 c).owesAt () pt.castSucc
    ∗ (∃ d, staged c cc0_stg0_0 ((dats m 0 c).before (0 : Fin 2) pt d))
    ∗ (∃ d, staged c cc0_stg1_0 ((dats m 0 c).before (1 : Fin 2) pt d)))

/-- What it takes back. -/
def returned (c : Dev nD) : sProp 𝕄 :=
  iprop(finish c ∗ (dats m 0 c).owesAt () pt.succ ∗ staged c cc0_stg0_0 (input m c) ∗ staged c cc0_stg1_0 (output m c))

/-- A device's run of the kernel, from what the pipeline hands it to what it takes back. -/
theorem handed_run (c : Dev nD) :
    handed m c ⊢ wp frame (wpE (defs₀ (F := F)) Variants.none (c : Thread nD τ) none) Set.univ
      (cc0_body (Memref.whole cc0_stg0_0) (Memref.isWhole_whole _) (Memref.whole cc0_stg1_0) (Memref.isWhole_whole _) cc0_scratch0 cc0_scratch1)
      (fun _ => returned m c) := by
  unfold handed start ghost Dat.owesAt Pipeline.owesWithin
  rw [show (dats m 0 c).owed pt.castSucc = debt₀ c from rfl]
  iintro ⟨⟨⟨%K, #HR, Hr⟩, Hc, #Hlev⟩, ⟨%W, %hW, HO⟩, ⟨%d0, %f0, %h0, Hx⟩, ⟨%d1, %f1, %h1, Ho⟩⟩
  have hx : f0 = input m c := by
    rw [h0]; unfold Dat.before; rw [if_pos (fetch0_0 pt)]; rfl
  subst hx
  iapply (body_run m K c f1 W (fun _ => returned m c))
  isplitr; · iexact HR
  isplitl [Hr]; · iexact Hr
  isplitl [Hc]; · iexact Hc
  isplitr; · iexact Hlev
  isplitl [HO]; · iexact HO
  isplitl [Hx]; · iexact Hx
  isplitl [Ho]; · iexact Ho
  iintro ⟨Hf, ⟨%W', HO⟩, Hx, Ho⟩
  unfold returned Dat.owesAt Pipeline.owesWithin
  rw [show (dats m 0 c).owed pt.succ = 0 from rfl]
  isplitl [Hf]; · iexact Hf
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The pipeline's demand of the kernel on device `c` is met. -/
theorem obligation (c : Dev nD) : BodyObligation (dats (F := F) m 0 c) (defs₀ (F := F)) Variants.none () Set.univ := fun t => by
  rw [pt_eq t, windows_eq, windows_eq]
  simp only [owns_staged]
  exact handed_run m c

/-! ## The ghost state at launch -/

/-- The exchange's cells, all devices', -/
def allCells : Finset (GSem nD τ sig) :=
  Finset.univ.map ⟨fun a : Dev nD × Fin 3 => cell a.1 a.2, fun a b h => Prod.ext (cell_inj h).1 (cell_inj h).2⟩
/-- and the rights to pay them. -/
def allToks : Finset (GSem nD τ sig × ℕ × Unit) :=
  allCells.map ⟨fun g => (g, 0, ()), fun _ _ h => congrArg Prod.fst h⟩

/-- The launch's ghost element: the pipeline's and the exchange's. -/
def seed : GU := (initOf (Pipeline.cells cfgs cellOf_inj) (Pipeline.launchToks cfgs cellOf_inj), initOf allCells allToks)

/-- What is made for cell `(c, k)`: its record, its device's place in it, that its first round is open, and the right to pay it. -/
def made (c : Dev nD) (k : Fin 3) : sProp 𝕄 :=
  iprop(roundState EX (schedule (input m)) (cell c k) 0 ∗ reached EX (cell c k) 0 ∗ atPos EX (cell c k) 0 ∅ 0 ∗ dutyTok EX (cell c k) 0 ())

omit [FloatOps F] in
/-- What holds over all cells, sorted by device and kind. -/
theorem over_cells (Φ : GSem nD τ sig → sProp 𝕄) :
    bigSep allCells Φ = bigSep Finset.univ fun c : Dev nD => bigSep Finset.univ fun k : Fin 3 => Φ (cell c k) := by
  unfold allCells; rw [bigSep_map, bigSep_univ_prod]; rfl

omit [FloatOps F] in
/-- The exchange's ghost state, made for all cells at once. -/
theorem make : BI.own (EX (initOf allCells allToks))
    ⊢ (|==> bigSep Finset.univ fun c : Dev nD => bigSep Finset.univ fun k : Fin 3 => made m c k : sProp 𝕄) := by
  refine (Rounds.fund EX (schedule (input m)) allCells allToks).trans (BI.bupd_mono ?_)
  unfold allToks
  rw [bigSep_map, ← bigSep_sep', ← bigSep_sep', ← bigSep_sep', over_cells]
  exact BI.Entails.refl _

/-- A pair of a device and a kind, sent to the pair it pays. -/
def payEquiv : Dev nD × Fin 3 ≃ Dev nD × Fin 3 where
  toFun a := (other a.1 a.2, a.2)
  invFun a := (other a.1 a.2, a.2)
  left_inv a := Prod.ext (other_other a.1 a.2) rfl
  right_inv a := Prod.ext (other_other a.1 a.2) rfl

omit [FloatOps F] in
/-- A device's own two scoped semaphores and its barrier semaphore, at zero, are its three cells at zero. -/
theorem cells_zero (c : Dev nD) :
    (iprop(Pipeline.ownSems0 (Ix := Unit) (Name := ℕ) (U := GU) (Lvl := ℕ) (Val := Elt F) (τ := τ) (fun i : Fin 2 => semOf i.succ) c ∗ unscopedSems0 c) : sProp 𝕄)
      = iprop((semVal (cell c 1) 0 ∗ semVal (cell c 2) 0) ∗ semVal (cell c 0) 0) := by
  rw [Pipeline.ownSems0_eq_of_list c (fun i : Fin 2 => semOf i.succ) [0, 1] (by decide) (by decide)]
  unfold unscopedSems0
  rw [bigSep_eq_bigSepL_of_eq [SemLoc.reg barS] (by decide) (by decide)]
  rfl

/-- Cell `(c, k)` in use: its invariant at some name, and what `made` has beside the record. -/
def opened (a : Dev nD × Fin 3) : sProp 𝕄 :=
  iprop((∃ κ : ℕ, cellInv EX (schedule (input m)) κ (cell a.1 a.2)) ∗ reached EX (cell a.1 a.2) 0
    ∗ atPos EX (cell a.1 a.2) 0 ∅ 0 ∗ dutyTok EX (cell a.1 a.2) 0 ())

omit [FloatOps F] in
/-- A cell's invariant, from its parts at launch. -/
theorem open_cell (c : Dev nD) (k : Fin 3) :
    iprop(semVal (cell c k) 0 ∗ made m c k) ⊢ (iprop(|={Set.univ}=> opened m (c, k)) : sProp 𝕄) := by
  unfold made opened
  iintro ⟨Hv, Hst, Hr, Hat, Htok⟩
  imod (show iprop(semVal (cell c k) 0 ∗ roundState EX (schedule (input m)) (cell c k) 0)
      ⊢ (|={Set.univ}=> iprop(∃ κ : ℕ, cellInv EX (schedule (input m)) κ (cell c k)) : sProp 𝕄) from
        (Rounds.body_intro EX (schedule (input m)) (cell c k)).trans inv_alloc) $$ [Hv Hst] with Hi
  · isplitl [Hv] <;> iassumption
  imodintro
  isplitl [Hi]; · iexact Hi
  isplitl [Hr]; · iexact Hr
  isplitl [Hat] <;> iassumption

omit [FloatOps F] in
/-- A device's three cells come into use. -/
theorem open_device (c : Dev nD) :
    iprop(Pipeline.ownSems0 (Ix := Unit) (Name := ℕ) (U := GU) (Lvl := ℕ) (Val := Elt F) (τ := τ) (fun i : Fin 2 => semOf i.succ) c ∗ unscopedSems0 c
        ∗ bigSep Finset.univ (made m c))
      ⊢ (iprop(|={Set.univ}=> bigSep Finset.univ fun k : Fin 3 => opened m (c, k)) : sProp 𝕄) := by
  refine BIBase.Entails.trans ?_ ((bigSep_mono fun k _ => open_cell m c k).trans (bigSep_fupd _ _))
  rw [bigSep_sep']
  iintro ⟨Hs, Hu, Hm⟩
  isplitl [Hs Hu]
  · ihave Hz := (Entails.of_eq (cells_zero (F := F) c)) $$ [Hs Hu]
    · isplitl [Hs] <;> iassumption
    icases Hz with ⟨⟨H1, H2⟩, H0⟩
    rw [three_eq]
    isplitl [H0]; · iexact H0
    isplitl [H1]; · iexact H1
    iexact H2
  · iexact Hm

omit [FloatOps F] in
/-- The rights to pay, dealt to the devices that pay: with each device's places in its own cells, its `rights`. -/
theorem deal :
    iprop((bigSep Finset.univ fun a : Dev nD × Fin 3 => (atPos EX (cell a.1 a.2) 0 ∅ 0 : sProp 𝕄))
        ∗ bigSep Finset.univ fun a : Dev nD × Fin 3 => (dutyTok EX (cell a.1 a.2) 0 () : sProp 𝕄))
      ⊢ (bigSep Finset.univ fun c : Dev nD => rights c : sProp 𝕄) := by
  rw [bigSep_univ_equiv payEquiv (fun a : Dev nD × Fin 3 => (dutyTok EX (cell a.1 a.2) 0 () : sProp 𝕄)), ← bigSep_sep', bigSep_univ_prod]
  exact BI.Entails.refl _

omit [FloatOps F] in
/-- The records and its rights are what a device starts with. -/
theorem ghost_intro (K : Dev nD × Fin 3 → ℕ) (c : Dev nD) : iprop(records m K ∗ rights c) ⊢ ghost m c := by
  unfold ghost
  iintro H
  iexists K
  iexact H

omit [FloatOps F] in
/-- All the cells in use give every device its ghost state: the records are common knowledge, the rights are dealt. -/
theorem share_out : (bigSep Finset.univ fun c : Dev nD => bigSep Finset.univ fun k : Fin 3 => opened m (c, k) : sProp 𝕄)
    ⊢ bigSep Finset.univ fun c : Dev nD => ghost m c := by
  rw [← bigSep_univ_prod (fun a : Dev nD × Fin 3 => opened m a)]
  unfold opened
  rw [bigSep_sep', bigSep_sep', bigSep_sep']
  iintro ⟨HI, #Hr, Hd⟩
  ihave HK := (BI.bigSep_exists_pi Finset.univ
    (fun (a : Dev nD × Fin 3) (κ : ℕ) => (cellInv EX (schedule (input m)) κ (cell a.1 a.2) : sProp 𝕄))) $$ HI
  icases HK with ⟨%K, #HI⟩
  ihave Hd' := (deal (F := F)) $$ Hd
  ihave HR := (show iprop(records m K ∗ bigSep Finset.univ fun c : Dev nD => rights c) ⊢
      (bigSep Finset.univ fun c : Dev nD => ghost m c : sProp 𝕄) from by
    refine (sep_mono_left (BI.bigSep_of_persistent (Finset.univ : Finset (Dev nD)) (records m K))).trans ?_
    rw [← bigSep_sep']
    exact bigSep_mono fun c _ => ghost_intro m K c) $$ [Hd']
  · isplitr
    · unfold records
      isplitr; · iexact HI
      iexact Hr
    · iexact Hd'
  iexact HR

omit [FloatOps F] in
/-- The launch's step for the whole mesh. -/
theorem launch_all :
    (bigSep Finset.univ fun c : Dev nD => iprop(Pipeline.ownSems0 (Ix := Unit) (Name := ℕ) (U := GU) (Lvl := ℕ) (Val := Elt F) (τ := τ)
        (fun i : Fin 2 => semOf i.succ) c ∗ unscopedSems0 c ∗ bigSep Finset.univ (made m c)) : sProp 𝕄)
      ⊢ |={Set.univ}=> bigSep Finset.univ (ghost m) :=
  ((bigSep_mono fun c _ => open_device m c).trans (bigSep_fupd _ _)).trans (BI.fupd_mono (share_out m))

/-! ## The credit of the cells the partner pays -/

/-- Device `d` owes device `c`'s barrier and receive cells what they are paid if it is `c`'s partner, and nothing else. -/
theorem debt_at (d c : Dev nD) (k : Fin 3) (hk : k ≠ 1) : debt₀ d (cell c k) () = if d = peer c then units k else 0 := by
  unfold debt₀ debt₁
  rw [Pi.add_apply, Finsupp.add_apply, tallyAt_apply, tallyAt_apply]
  by_cases h : d = peer c
  · subst h
    rw [peer_peer, if_pos rfl]
    match k, hk with
    | 0, _ => rw [if_neg fun e => absurd (cell_inj e.1).2 (by decide), if_pos ⟨rfl, rfl⟩, Nat.zero_add]
    | 2, _ => rw [if_pos ⟨rfl, rfl⟩, if_neg fun e => absurd (cell_inj e.1).2 (by decide), Nat.add_zero]
  · have hne (l : Fin 3) : ¬ (cell c k = cell (peer d) l ∧ () = ()) := fun e => h (by rw [(cell_inj e.1).1, peer_peer])
    rw [if_neg (hne 2), if_neg (hne 0), if_neg h]

/-- The credit of one of the cells that the partner pays, -/
theorem credit_at (c : Dev nD) (k : Fin 3) (hk : k ≠ 1) :
    tallyOn (cell c k) (launchCredit (Pipeline.owing debt₀) 0 (cell c k)) = (tallyAt (cell c k) () (units k) : CellTallies nD τ sig Unit) := by
  unfold tallyAt
  refine congrArg _ (Finsupp.ext fun u => ?_)
  cases u
  rw [Pipeline.launchCredit_owing, Finsupp.single_eq_same, Finset.sum_congr rfl fun d _ => debt_at d c k hk,
    Finset.sum_ite_eq' Finset.univ (peer c) fun _ => units k, if_pos (Finset.mem_univ _)]

omit [FloatOps F] in
/-- and of both such cells, out of what the launch hands the device. -/
theorem credits (c : Dev nD) :
    (Pipeline.launchCred debt₀ c : sProp 𝕄) ⊢ iprop(cred (tallyAt (cell c 0) () (units 0)) ∗ cred (tallyAt (cell c 2) () (units 2))) := by
  unfold Pipeline.launchCred
  rw [bigSep_univ_at _ (semOf 0), credit_at c 0 (by decide), ← credit_at c 2 (by decide)]
  exact sep_mono_right (bigSep_elim (Finset.mem_erase.mpr ⟨by decide, Finset.mem_univ _⟩))

/-! ## The run -/

/-- The copy's two semaphores are scoped to the launch and none of the pipeline's. -/
theorem ownSems : Pipeline.OwnSemFacts cfg0.spec (fun i : Fin 2 => semOf i.succ) := by decide

/-- What a window's array holds on device `c` after the pipeline. -/
def final (c : Dev nD) (w : Fin cfg0.W) : Buf (Elt F) ((cfg0.win w).arr.view.loc (c : Thread nD τ)) := (dats m 0 c).arrAt w cfg0.N

set_option maxRecDepth 8000 in
/-- On the mesh of 32 devices, from any memory with every semaphore at zero, at any float values: every weakly fair
    execution terminates without a fault; each device's arrays then hold what the pipeline leaves in them, and every
    semaphore is at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSems (Pipeline.PreFacts.none _) EP defs₀ Variants.none m ρ main
    (hmain := fun _ => rfl)
    (hbody := obligation m) (hne := block_pos0) (harr := arr_whole0) (hstage := stage_whole0)
    (hshare := fun c w => by unfold Dat.share; split <;> rfl)
    (hdistinct := winFacts0.arr_inj)
    (O₀ := debt₀) (howed₀ := fun _ => rfl) (howedN := fun _ => rfl)
    (L := onTcs) (lv := rank) (hL := onTcs_of_ne)
    (hwaits := fun c => Pipeline.cellsWaits_intro cfgs (dats m) () 0 c fun w s t => by
      rcases t with ⟨_ | _, ht⟩
      · exact mayWait_staging c _ (by fin_cases w <;> fin_cases s <;> decide)
      · show _ ⊢ MayWait _ _ _ 0
        rw [MayWait_zero]; iintro -; iempintro)
    (G := fun c => bigSep Finset.univ (made m c)) (G' := ghost m) (u₀ := seed)
    (hu₀ := by
      unfold seed
      iintro Hu
      ihave H := (ownU_pair _ _) $$ Hu
      icases H with ⟨HP, HX⟩
      imod (make m) $$ HX with HG
      imodintro
      isplitl [HP] <;> iassumption)
    (hglob := launch_all m)
    (hA := fun _ _ => rfl) (hpf := fun _ k => k.elim0)
    (X := start m) (Y := fun c => unscopedSems0 c) (Z := fun _ => iprop(emp))
    (hX := fun c => by
      iintro ⟨-, Hlev, Hcr, -, HG⟩
      ihave Hc := (credits (F := F) c) $$ Hcr
      imodintro
      unfold start
      isplitl
      · isplitl [HG]; · iexact HG
        isplitl [Hc] <;> iassumption
      · iempintro)
    (hin := fun c => by
      show _ ⊢ start m c
      iintro ⟨Hs, -, -⟩
      iexact Hs)
    (hout := fun c => by
      rw [scopedRest0_eq]
      show finish c ⊢ _
      unfold finish
      iintro ⟨H0, H1, H2⟩
      ihave Hz := (Entails.of_eq (cells_zero (F := F) c).symm) $$ [H0 H1 H2]
      · isplitl [H1 H2]
        · isplitl [H1] <;> iassumption
        · iexact H0
      icases Hz with ⟨Hs, Hu⟩
      isplitl [Hu]; · iexact Hu
      isplitl [Hs]; · iexact Hs
      iempintro)
    (QY := fun c s => ∀ sm : SemLoc sig, sm.isScoped .tc = false → s.sem ((c.tc : Thread nD τ), sm) = 0)
    (hY := fun c s' => by
      iintro ⟨Hu, -, HSI⟩
      ihave %hz := (tcUnscoped_read c s') $$ [Hu HSI]
      · isplitl [Hu] <;> iassumption
      imodintro
      isplitr; · ipureintro; exact hz
      iexact HSI)
    (hQ := fun _ h hs => ⟨fun c w => (h c).1 w, sem_eq_zero hs fun c => (h c).2.2⟩)

end Cert.KernelIdeal.Exchange

end
-- ==== Proof.Value.lean ====
/-
# What the arrays hold at the end

`run_value` reads `run_main` at the program's own arrays: device `c`'s result is `gathered` of the devices' arguments, at
any float values. `gathered_blocks` is the whole array's side of it: if each device's argument is its block of rows of one
array, `gathered` gives each device its block of columns of that array. `reference_run` is the run of the reference, a
program that returns its argument.
-/
module

public import proofs.«01_k».proof.Proof.Launch
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.KernelIdeal.Exchange

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## The kernel's arrays -/

/-- The argument's one block is the whole argument, -/
theorem input_eq (c : Dev nD) : input m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- which the pipeline leaves alone, -/
theorem final_arg (c : Dev nD) : final m c (0 : Fin 2) = m ((c : Thread nD τ).loc main_arg0) :=
  (dats (F := F) m 0 c).arrAt_in (0 : Fin 2) rfl _

/-- and the result's one block, which the pipeline writes back, is the whole result. -/
theorem final_result (c : Dev nD) : final m c (1 : Fin 2) = output m c := by
  have hw : (win0_1.blk (0 : Fin 1)).view.read (Elt F) (final m c (1 : Fin 2)) = output m c := by
    unfold final
    rw [show cfg0.N = (pt : Fin cfg0.N).val + 1 from rfl, (dats m 0 c).arrAt_succ (1 : Fin 2) pt, if_pos (flush0_1 pt)]
    exact View.read_write_univ _ _
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans hw

/-- The run of the mesh, read at the arrays: the result is gathered from the arguments, these end as they were, and every
    semaphore is at zero. -/
theorem run_value : θ_run defs (onTc (τ := τ) (main (F := F))) ⟨m, fun _ => 0, ρ⟩
    (fun r => (∀ c : Dev nD, r.2.mem ((c : Thread nD τ).loc main_v1) = gathered (fun d : Dev nD => m ((d : Thread nD τ).loc main_arg0)) c
        ∧ r.2.mem ((c : Thread nD τ).loc main_arg0) = m ((c : Thread nD τ).loc main_arg0))
      ∧ r.2.sem = fun _ => 0) := by
  refine (θ_run defs _ _).mono (fun r h => ⟨fun c => ⟨(h.1 c (1 : Fin 2)).trans ?_, (h.1 c (0 : Fin 2)).trans (final_arg m c)⟩, h.2⟩) (run_main m ρ)
  rw [final_result]
  exact congrArg (fun x => gathered x c) (funext (input_eq m))

/-! ## The whole array's blocks -/

/-- A device's block along the mesh's first axis is its half. -/
theorem block_half (c : Dev nD) : Layout.meshLin [2, 4, 4] c.val [0] = c.val / 16 := by revert c; decide +kernel

/-- Devices whose arguments are their blocks of rows of one array gather their blocks of columns of it. -/
theorem gathered_blocks {α : Type} (v : (⟨2, ![1024, 1024]⟩ : Shape).Idx → α) (x : Dev nD → S512x1024.Idx → α)
    (hx : ∀ c, x c = Layout.blockN ⟨2, ![512, 1024]⟩ ⟨2, ![1024, 1024]⟩ (Layout.meshBlock [2, 4, 4] ![[0], []] c) v) (c : Dev nD) :
    gathered x c = Layout.blockN ⟨2, ![1024, 512]⟩ ⟨2, ![1024, 1024]⟩ (Layout.meshBlock [2, 4, 4] ![[], [0]] c) v := by
  funext i
  refine (congrFun (hx (origin c i)) (spot c i)).trans ?_
  rw [Layout.blockN_apply, Layout.blockN_apply]
  refine congrArg v (funext fun b => Fin.ext ?_)
  have h0 : (i 0).val < 1024 := (i 0).isLt
  have hc : c.val < 32 := c.isLt
  rw [Layout.TilesN.idx_val, Layout.TilesN.idx_val]
  match b with
  | 0 =>
    show Layout.meshLin [2, 4, 4] (origin c i).val [0] * 512 + (i 0).val % 512 = 0 * 1024 + (i 0).val
    rw [block_half]
    show (16 * ((i 0).val / 512) + c.val % 16) / 16 * 512 + (i 0).val % 512 = _
    omega
  | 1 =>
    show 0 * 1024 + (512 * (c.val / 16) + (i 1).val) = Layout.meshLin [2, 4, 4] c.val [0] * 512 + (i 1).val
    rw [block_half]
    omega

/-! ## The reference -/

/-- The reference computes nothing: every buffer ends as it was. -/
theorem reference_run (m' : (ℓ : Loc Cert.ReferenceIdeal.nD Cert.ReferenceIdeal.τ Cert.ReferenceIdeal.sig) → Buf (Elt F) ℓ)
    (ρ' : Dev Cert.ReferenceIdeal.nD → PrngReg) :
    θ_run Cert.ReferenceIdeal.defs (onTc (τ := Cert.ReferenceIdeal.τ) (Cert.ReferenceIdeal.main (F := F))) ⟨m', fun _ => 0, ρ'⟩
      (fun r => (∀ c : Dev Cert.ReferenceIdeal.nD,
          r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl)
      (fun _ => trivial) m' ρ')

end Cert.KernelIdeal.Exchange

end
-- ==== Proof.lean ====
/-
# The claims

The kernel and its idealization are one text, run on bits and on exact numbers, so one run, `run_value`, serves both: it
holds at any float values. It gives the two programs' frames and, with the blocks of the whole array, the value claim.
-/
module

public import proofs.«01_k».proof.Defs
public import proofs.«01_k».proof.Proof.Gen.Kernel
public import proofs.«01_k».proof.Proof.Value

@[expose] public section

noncomputable section

namespace Cert.Proof

open Idealize.ShloMosaic Idealize.SL.Sem
open Cert.KernelIdeal.Exchange

/-- The two texts' kernel functions are the same, -/
theorem bodies_eq : Cert.Kernel.defs₀ (F := Bits) = Cert.KernelIdeal.defs₀ (F := Bits) :=
  congrArg Defs.onTc (funext fun l => funext fun a => match l, a with | 0, (_, _) => rfl)

/-- and so are their body tables. -/
theorem defs_eq : Cert.Kernel.defs (F := Bits) = Cert.KernelIdeal.defs (F := Bits) :=
  congrArg (Pipeline.defs Cert.KernelIdeal.pcfgs) bodies_eq

/-- The kernel as compiled, on bits, runs, leaves its argument and ends with every semaphore at zero. -/
theorem frame_kernel : Cert.quiescent_Kernel := fun m g _ => by
  rw [defs_eq]
  exact (θ_run Cert.KernelIdeal.defs _ _).mono (fun _ h => ⟨fun c => (h.1 c).2, h.2⟩) (run_value (F := Bits) m g)

/-- So does its idealization, -/
theorem frame_kernel_ideal : Cert.quiescent_KernelIdeal := fun m g _ =>
  (θ_run Cert.KernelIdeal.defs _ _).mono (fun _ h => ⟨fun c => (h.1 c).2, h.2⟩) (run_value (F := Ideal) m g)

/-- and the reference. -/
theorem frame_reference : Cert.quiescent_ReferenceIdeal := fun m g _ => reference_run m g

/-- From each device's block of rows of the reference's array, each device's result ends as its block of columns of it. -/
theorem value : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (gathered_blocks _ _ hm c), (h.1 c).2⟩) (run_value (F := Ideal) m g),
    (θ_run Cert.ReferenceIdeal.defs _ _).mono (fun _ h => ⟨h.1 0, h.1 0⟩) (reference_run m' g')⟩

/-- Everything claimed: the three frames, the idealization's faithfulness (no operation was rewritten), the value. -/
theorem claim : Cert.Claim :=
  ⟨Cert.Kernel.Gen.facts, Cert.KernelIdeal.Gen.facts, Cert.ReferenceIdeal.Gen.facts,
    frame_kernel, frame_kernel_ideal, frame_reference, trivial, value⟩

end Cert.Proof

end
